-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_shared_finite_weights [hPre_shared_finite_weights : Cert.Pre_shared_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_shared_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_shared_finite_weights [hPre_shared_finite_weights : Cert.Pre_shared_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_shared_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_shared_finite_weights [hKernelIdeal : Cert.KernelIdeal.Facts] [hPre_shared_finite_weights : Cert.Pre_shared_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_shared_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_shared_finite_weights [hReferenceIdeal : Cert.ReferenceIdeal.Facts] [hPre_shared_finite_weights : Cert.Pre_shared_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_shared_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_shared_finite_weights [hKernelIdeal : Cert.KernelIdeal.Facts] [hReferenceIdeal : Cert.ReferenceIdeal.Facts] [hPre_shared_finite_weights : Cert.Pre_shared_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_shared_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_shared_finite_weights : Cert.Pre_shared_finite_weights.Facts),
    quiescent_Kernel (hKernel := hKernel)
    ∧ quiescent_KernelIdeal (hKernelIdeal := hKernelIdeal)
    ∧ quiescent_KernelIdeal_pre_shared_finite_weights (hKernelIdeal := hKernelIdeal) (hPre_shared_finite_weights := hPre_shared_finite_weights)
    ∧ quiescent_ReferenceIdeal (hReferenceIdeal := hReferenceIdeal)
    ∧ quiescent_ReferenceIdeal_pre_shared_finite_weights (hReferenceIdeal := hReferenceIdeal) (hPre_shared_finite_weights := hPre_shared_finite_weights)
    ∧ preserves_Kernel_KernelIdeal
    ∧ algebraic_KernelIdeal_ReferenceIdeal_pre_shared_finite_weights (hKernelIdeal := hKernelIdeal) (hReferenceIdeal := hReferenceIdeal) (hPre_shared_finite_weights := hPre_shared_finite_weights)
-- ==== Pre_shared_finite_weights.lean ====
abbrev S16x512x256 : Shape := ⟨3, ![16, 512, 256]⟩
abbrev S16x512x128 : Shape := ⟨3, ![16, 512, 128]⟩
abbrev S16x512 : Shape := ⟨2, ![16, 512]⟩
abbrev S256x256 : Shape := ⟨2, ![256, 256]⟩
abbrev S1x256 : Shape := ⟨2, ![1, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel
  bcast_S_S16x512x256 : S_.BroadcastsInDim S16x512x256 (![] : Fin 0 → Fin S16x512x256.rank)
  reducesTo_S16x512x256_S_d0_1_2 : S16x512x256.ReducesTo [0, 1, 2] S_

variable [Facts]

def fn {F : FTy → Type} [FloatOps F] (main_arg0 : FVec F S16x512x256 .f32) (main_arg1 : FVec F S16x512x128 .f32) (main_arg2 : IVec S16x512 32) (main_arg3 : IVec S16x512 32) (main_arg4 : FVec F S256x256 .f32) (main_arg5 : FVec F S256x256 .f32) (main_arg6 : FVec F S1x256 .f32) : IVec S_ 1 :=
  let main_v0 : FVec F S256x256 .f32 := Host.absf main_arg4
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  let main_v4 : FVec F S16x512x256 .f32 := Host.absf main_arg0
  let main_cst_0 : FVec F S_ .f32 := constant S_ .f32 0x7F800000#32
  let main_v5 : FVec F S16x512x256 .f32 := broadcastInDim S16x512x256 ![] bcast_S_S16x512x256 main_cst_0
  let main_v6 : IVec S16x512x256 1 := cmpf .olt main_v4 main_v5
  let main_c_1 : IVec S_ 1 := constantI S_ 1 1#1
  let main_v7 : IVec S_ 1 := (fun x v => Host.reduce IntOp.andi x v reducesTo_S16x512x256_S_d0_1_2 h_S_) main_v6 main_c_1
  let main_v8 : IVec S_ 1 := andi main_v3 main_v7
  let main_v9 : IVec S256x256 1 := cmpf .oeq main_arg5 main_arg4
  let main_c_2 : IVec S_ 1 := constantI S_ 1 1#1
  let main_v10 : IVec S_ 1 := (fun x v => Host.reduce IntOp.andi x v reducesTo_S256x256_S_d0_1 h_S_) main_v9 main_c_2
  let main_v11 : IVec S_ 1 := andi main_v10 main_v8
  main_v11
-- ==== Kernel.lean ====
abbrev S16x512x256 : Shape := ⟨3, ![16, 512, 256]⟩
abbrev S16x512x128 : Shape := ⟨3, ![16, 512, 128]⟩
abbrev S16x512 : Shape := ⟨2, ![16, 512]⟩
abbrev S256x256 : Shape := ⟨2, ![256, 256]⟩
abbrev S1x256 : Shape := ⟨2, ![1, 256]⟩
abbrev S16x1x512 : Shape := ⟨3, ![16, 1, 512]⟩
abbrev S4x512x256 : Shape := ⟨3, ![4, 512, 256]⟩
abbrev S4x512x128 : Shape := ⟨3, ![4, 512, 128]⟩
abbrev S4x1x512 : Shape := ⟨3, ![4, 1, 512]⟩
abbrev S1x512x256 : Shape := ⟨3, ![1, 512, 256]⟩
abbrev S512x256 : Shape := ⟨2, ![512, 256]⟩
abbrev S1x512x128 : Shape := ⟨3, ![1, 512, 128]⟩
abbrev S512x128 : Shape := ⟨2, ![512, 128]⟩
abbrev S512x1 : Shape := ⟨2, ![512, 1]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩

abbrev nBuf : Space → Nat
  | .hbm => 11
  | .vmem => 14
  | .smem => 0
  | _ => 0

abbrev bufTy : (tb : Table) → Fin (tcTables nBuf tb) → BufTy
  | .hbm, ⟨0, _⟩ => ⟨S16x512x256, .f32⟩
  | .hbm, ⟨1, _⟩ => ⟨S16x512x128, .f32⟩
  | .hbm, ⟨2, _⟩ => ⟨S16x512, .i32⟩
  | .hbm, ⟨3, _⟩ => ⟨S16x512, .i32⟩
  | .hbm, ⟨4, _⟩ => ⟨S256x256, .f32⟩
  | .hbm, ⟨5, _⟩ => ⟨S256x256, .f32⟩
  | .hbm, ⟨6, _⟩ => ⟨S1x256, .f32⟩
  | .hbm, ⟨7, _⟩ => ⟨S16x1x512, .i32⟩
  | .hbm, ⟨8, _⟩ => ⟨S16x1x512, .i32⟩
  | .hbm, ⟨9, _⟩ => ⟨S16x512x256, .f32⟩
  | .hbm, ⟨10, _⟩ => ⟨S16x512x128, .f32⟩
  | .local _ .vmem, ⟨0, _⟩ => ⟨S4x512x256, .f32⟩
  | .local _ .vmem, ⟨1, _⟩ => ⟨S4x512x256, .f32⟩
  | .local _ .vmem, ⟨2, _⟩ => ⟨S4x512x128, .f32⟩
  | .local _ .vmem, ⟨3, _⟩ => ⟨S4x512x128, .f32⟩
  | .local _ .vmem, ⟨4, _⟩ => ⟨S4x1x512, .i32⟩
  | .local _ .vmem, ⟨5, _⟩ => ⟨S4x1x512, .i32⟩
  | .local _ .vmem, ⟨6, _⟩ => ⟨S4x1x512, .i32⟩
  | .local _ .vmem, ⟨7, _⟩ => ⟨S4x1x512, .i32⟩
  | .local _ .vmem, ⟨8, _⟩ => ⟨S256x256, .f32⟩
  | .local _ .vmem, ⟨9, _⟩ => ⟨S1x256, .f32⟩
  | .local _ .vmem, ⟨10, _⟩ => ⟨S4x512x256, .f32⟩
  | .local _ .vmem, ⟨11, _⟩ => ⟨S4x512x256, .f32⟩
  | .local _ .vmem, ⟨12, _⟩ => ⟨S4x512x128, .f32⟩
  | .local _ .vmem, ⟨13, _⟩ => ⟨S4x512x128, .f32⟩
  | _, _ => ⟨S16x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16x512x256 : Shape := ⟨3, ![16, 512, 256]⟩
abbrev S16x512x128 : Shape := ⟨3, ![16, 512, 128]⟩
abbrev S16x512 : Shape := ⟨2, ![16, 512]⟩
abbrev S256x256 : Shape := ⟨2, ![256, 256]⟩
abbrev S1x256 : Shape := ⟨2, ![1, 256]⟩
abbrev S256x1 : Shape := ⟨2, ![256, 1]⟩
abbrev S16x512x1 : Shape := ⟨3, ![16, 512, 1]⟩
abbrev S_ : Shape := ⟨0, ![]⟩
abbrev S16x512x512 : Shape := ⟨3, ![16, 512, 512]⟩
abbrev S16x1x512 : Shape := ⟨3, ![16, 1, 512]⟩

abbrev nBuf : Space → Nat
  | .hbm => 62
  | .vmem => 0
  | .smem => 0
  | _ => 0

abbrev bufTy : (tb : Table) → Fin (tcTables nBuf tb) → BufTy
  | .hbm, ⟨0, _⟩ => ⟨S16x512x256, .f32⟩
  | .hbm, ⟨1, _⟩ => ⟨S16x512x128, .f32⟩
  | .hbm, ⟨2, _⟩ => ⟨S16x512, .i32⟩
  | .hbm, ⟨3, _⟩ => ⟨S16x512, .i32⟩
  | .hbm, ⟨4, _⟩ => ⟨S256x256, .f32⟩
  | .hbm, ⟨5, _⟩ => ⟨S256x256, .f32⟩
  | .hbm, ⟨6, _⟩ => ⟨S1x256, .f32⟩
  | .hbm, ⟨7, _⟩ => ⟨S256x256, .f32⟩
  | .hbm, ⟨8, _⟩ => ⟨S16x512x256, .f32⟩
  | .hbm, ⟨9, _⟩ => ⟨S256x256, .f32⟩
  | .hbm, ⟨10, _⟩ => ⟨S16x512x256, .f32⟩
  | .hbm, ⟨11, _⟩ => ⟨S256x1, .f32⟩
  | .hbm, ⟨12, _⟩ => ⟨S16x512x1, .f32⟩
  | .hbm, ⟨13, _⟩ => ⟨S_, .f32⟩
  | .hbm, ⟨14, _⟩ => ⟨S16x512x1, .f32⟩
  | .hbm, ⟨15, _⟩ => ⟨S16x512x1, .f32⟩
  | .hbm, ⟨16, _⟩ => ⟨S16x512x1, .f32⟩
  | .hbm, ⟨17, _⟩ => ⟨S16x512x1, .f32⟩
  | .hbm, ⟨18, _⟩ => ⟨S16x512x1, .i1⟩
  | .hbm, ⟨19, _⟩ => ⟨S16x512x1, .f32⟩
  | .hbm, ⟨20, _⟩ => ⟨S16x512x1, .f32⟩
  | .hbm, ⟨21, _⟩ => ⟨S16x512x1, .f32⟩
  | .hbm, ⟨22, _⟩ => ⟨S16x512x1, .f32⟩
  | .hbm, ⟨23, _⟩ => ⟨S16x512x1, .f32⟩
  | .hbm, ⟨24, _⟩ => ⟨S16x512x1, .f32⟩
  | .hbm, ⟨25, _⟩ => ⟨S16x512x1, .f32⟩
  | .hbm, ⟨26, _⟩ => ⟨S16x512x1, .f32⟩
  | .hbm, ⟨27, _⟩ => ⟨S_, .f32⟩
  | .hbm, ⟨28, _⟩ => ⟨S16x512x1, .f32⟩
  | .hbm, ⟨29, _⟩ => ⟨S16x512x1, .f32⟩
  | .hbm, ⟨30, _⟩ => ⟨S16x512x512, .f32⟩
  | .hbm, ⟨31, _⟩ => ⟨S16x512x512, .f32⟩
  | .hbm, ⟨32, _⟩ => ⟨S16x512x512, .f32⟩
  | .hbm, ⟨33, _⟩ => ⟨S16x512x1, .i32⟩
  | .hbm, ⟨34, _⟩ => ⟨S16x1x512, .i32⟩
  | .hbm, ⟨35, _⟩ => ⟨S16x512x512, .i32⟩
  | .hbm, ⟨36, _⟩ => ⟨S16x512x512, .i32⟩
  | .hbm, ⟨37, _⟩ => ⟨S16x512x512, .i1⟩
  | .hbm, ⟨38, _⟩ => ⟨S_, .f32⟩
  | .hbm, ⟨39, _⟩ => ⟨S16x512x512, .f32⟩
  | .hbm, ⟨40, _⟩ => ⟨S16x512x512, .f32⟩
  | .hbm, ⟨41, _⟩ => ⟨S_, .f32⟩
  | .hbm, ⟨42, _⟩ => ⟨S16x512, .f32⟩
  | .hbm, ⟨43, _⟩ => ⟨S_, .f32⟩
  | .hbm, ⟨44, _⟩ => ⟨S16x512, .f32⟩
  | .hbm, ⟨45, _⟩ => ⟨S16x512, .f32⟩
  | .hbm, ⟨46, _⟩ => ⟨S16x512x1, .f32⟩
  | .hbm, ⟨47, _⟩ => ⟨S16x512x512, .f32⟩
  | .hbm, ⟨48, _⟩ => ⟨S16x512x512, .f32⟩
  | .hbm, ⟨49, _⟩ => ⟨S16x512x512, .f32⟩
  | .hbm, ⟨50, _⟩ => ⟨S_, .f32⟩
  | .hbm, ⟨51, _⟩ => ⟨S16x512, .f32⟩
  | .hbm, ⟨52, _⟩ => ⟨S16x512x1, .f32⟩
  | .hbm, ⟨53, _⟩ => ⟨S16x512x512, .f32⟩
  | .hbm, ⟨54, _⟩ => ⟨S16x512x512, .f32⟩
  | .hbm, ⟨55, _⟩ => ⟨S16x512x128, .f32⟩
  | .hbm, ⟨56, _⟩ => ⟨S_, .i32⟩
  | .hbm, ⟨57, _⟩ => ⟨S16x512, .i32⟩
  | .hbm, ⟨58, _⟩ => ⟨S16x512, .i1⟩
  | .hbm, ⟨59, _⟩ => ⟨S16x512x1, .i1⟩
  | .hbm, ⟨60, _⟩ => ⟨S16x512x128, .i1⟩
  | .hbm, ⟨61, _⟩ => ⟨S16x512x128, .f32⟩
  | _, _ => ⟨S16x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_0 : Ref sig .tc := ⟨.hbm, 38, rfl⟩
abbrev main_call1_v0 : Ref sig .tc := ⟨.hbm, 39, rfl⟩
abbrev main_v17 : Ref sig .tc := ⟨.hbm, 40, rfl⟩
abbrev main_cst_1 : Ref sig .tc := ⟨.hbm, 41, rfl⟩
abbrev main_v18 : Ref sig .tc := ⟨.hbm, 42, rfl⟩
abbrev main_cst_2 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_3 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_call2_v0 : Ref sig .tc := ⟨.hbm, 60, rfl⟩
abbrev main_v33 : Ref sig .tc := ⟨.hbm, 61, rfl⟩

abbrev nD : Nat := 1
abbrev τ : Topo := Topo.v7x

variable {F : FTy → Type} [FloatOps F]
-- ==== Proof.RowMath.lean ====
/- The mathematics of one row of the attention, over the extended reals and without a word about programs:
   what the temperature, a score and a row of the result are on each side, and why the two sides agree.

   * The kernel multiplies a query by the reciprocal of its temperature before the scores are taken; the
     reference divides the scores by the temperature afterwards.
   * The kernel multiplies the weighted sum of the parameters by the reciprocal of the softmax denominator;
     the reference divides every weight by that denominator before the sum. -/
module

public import Idealize.ShloMosaic.PureOps.Ideal.Laws
public import Idealize.ShloMosaic.Lib.IdealHost

@[expose] public section

noncomputable section

namespace Cert.RowMath

open Idealize.ShloMosaic

/-! ## Real numbers among the extended reals -/

/-- The extended real `x` is a real number. -/
def IsReal (x : EReal) : Prop := ∃ r : ℝ, x = r

theorem isReal_of_ne {x : EReal} (ht : x ≠ ⊤) (hb : x ≠ ⊥) : IsReal x :=
  ⟨x.toReal, (EReal.coe_toReal ht hb).symm⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A finite sum of real numbers is a real number. -/
theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

/-- A factor that is neither negative nor infinite goes into a sum, whatever the terms are. -/
theorem sum_mul {ι : Type} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- The reciprocal of a positive extended real is neither negative nor infinite. -/
theorem inv_of_pos {y : EReal} (h : 0 < y) : 0 ≤ y⁻¹ ∧ IsReal y⁻¹ := by
  induction y with
  | bot => simp at h
  | top => exact ⟨by simp, 0, by simp⟩
  | coe r =>
    rw [← EReal.coe_inv]
    exact ⟨EReal.coe_nonneg.mpr (inv_nonneg.mpr (EReal.coe_pos.mp h).le), ⟨_, rfl⟩⟩

/-- Division by a positive extended real is multiplication by its reciprocal. -/
theorem div_of_pos (x : EReal) {y : EReal} (h : 0 < y) : Ideal.div x y = x * y⁻¹ := by
  unfold Ideal.div; rw [if_neg h.ne']

/-! ## The constants -/

/-- The value added to every softplus, a hundredth as a binary32 number. -/
abbrev eps : EReal := Ideal.ofBits .f32 0x3C23D70A#32

/-- The score of a pair of positions that belong to different questions. -/
abbrev masked : EReal := Ideal.ofBits .f32 0xF149F2CA#32

/-- The value a row's maximum is taken from. -/
abbrev negInf : EReal := Ideal.ofBits .f32 0xFF800000#32

theorem eps_pos : 0 < eps := by
  have h : eps = ((1 * (2 ^ 23 + 2348810 : Nat) * (2 : ℝ) ^ ((120 : Int) - 127 - 23) : ℝ) : EReal) := by
    simp [eps, Ideal.ofBits, Ideal.ieee]
  rw [h]
  exact EReal.coe_pos.mpr (by positivity)

theorem masked_isReal : IsReal masked := by
  simp only [masked, Ideal.ofBits, Ideal.ieee]
  split
  · next h => exact absurd h (by decide)
  · split <;> exact ⟨_, rfl⟩

theorem negInf_eq : negInf = ⊥ := by
  simp [negInf, Ideal.ofBits, Ideal.ieee]

/-! ## The temperature -/

/-- The temperature of a position whose projection is `t`: softplus of `t` and a hundredth. -/
def temp (t : EReal) : EReal := max t 0 + Ideal.log1p (Ideal.exp (-(max t (-t)))) + eps

theorem exp_nonneg (x : EReal) : 0 ≤ Ideal.exp x := by
  induction x with
  | bot => simp
  | top => simp
  | coe r => rw [Ideal.exp_coe]; exact EReal.coe_nonneg.mpr (Real.exp_pos r).le

theorem log1p_nonneg {x : EReal} (h : 0 ≤ x) : 0 ≤ Ideal.log1p x := by
  induction x with
  | bot => simp at h
  | top =>
    unfold Ideal.log1p
    rw [EReal.add_top_of_ne_bot (show (1 : EReal) ≠ ⊥ from EReal.coe_ne_bot 1)]
    exact le_top
  | coe r =>
    have hr : 0 ≤ r := EReal.coe_nonneg.mp h
    have h1 : (1 : EReal) + r = ((1 + r : ℝ) : EReal) := by rw [EReal.coe_add, EReal.coe_one]
    unfold Ideal.log1p
    rw [h1]
    show 0 ≤ if 1 + r ≤ 0 then (⊥ : EReal) else (Real.log (1 + r) : EReal)
    rw [if_neg (by linarith)]
    exact EReal.coe_nonneg.mpr (Real.log_nonneg (by linarith))

/-- A temperature is positive, at whatever extended real. -/
theorem temp_pos (t : EReal) : 0 < temp t :=
  lt_of_lt_of_le eps_pos (le_add_of_nonneg_left (add_nonneg (le_max_right _ _) (log1p_nonneg (exp_nonneg _))))

/-! ## Scores -/

/-- The dot product of two vectors. -/
def dot {n : ℕ} (x y : Fin n → EReal) : EReal := ∑ k, x k * y k

theorem dot_isReal {n : ℕ} {x y : Fin n → EReal} (hx : ∀ k, IsReal (x k)) (hy : ∀ k, IsReal (y k)) : IsReal (dot x y) :=
  IsReal.sum _ fun k => (hx k).mul (hy k)

/-- The score the kernel gives a query `q` of projected temperature `t` and a key `k`. -/
def kscore {n : ℕ} (t : EReal) (q k : Fin n → EReal) : EReal := dot (fun x => q x * Ideal.div 1 (temp t)) k

/-- The score the reference gives them. -/
def rscore {n : ℕ} (t : EReal) (q k : Fin n → EReal) : EReal := Ideal.div (dot q k) (temp t)

/-- The two scores are equal, for all extended reals: the reciprocal of a temperature is a real number that is not
    negative, so it may be taken out of the sum. -/
theorem kscore_eq_rscore {n : ℕ} (t : EReal) (q k : Fin n → EReal) : kscore t q k = rscore t q k := by
  obtain ⟨h0, hr⟩ := inv_of_pos (temp_pos t)
  unfold kscore rscore dot
  rw [div_of_pos _ (temp_pos t), div_of_pos _ (temp_pos t), one_mul, sum_mul _ _ h0 hr.ne_top]
  exact Finset.sum_congr rfl fun x _ => by rw [mul_right_comm]

/-- The score of a query and a key that are real numbers is a real number. -/
theorem rscore_isReal {n : ℕ} (t : EReal) {q k : Fin n → EReal} (hq : ∀ x, IsReal (q x)) (hk : ∀ x, IsReal (k x)) :
    IsReal (rscore t q k) := by
  unfold rscore
  rw [div_of_pos _ (temp_pos t)]
  exact (dot_isReal hq hk).mul (inv_of_pos (temp_pos t)).2

/-! ## A row of the result -/

/-- The largest score of a row. -/
def rowMax {n : ℕ} (s : Fin n → EReal) : EReal := Finset.univ.fold max negInf s

/-- The maximum of a row that is not empty and holds real numbers is a real number. -/
theorem rowMax_isReal {n : ℕ} {s : Fin n → EReal} (hs : ∀ i, IsReal (s i)) (i : Fin n) : IsReal (rowMax s) := by
  refine isReal_of_ne (ne_of_lt ?_) (ne_of_gt ?_)
  · exact (Finset.fold_max_lt _).mpr ⟨by rw [negInf_eq]; exact bot_lt_top, fun x _ => lt_top_iff_ne_top.mpr (hs x).ne_top⟩
  · exact (Finset.lt_fold_max _).mpr (Or.inr ⟨i, Finset.mem_univ i, bot_lt_iff_ne_bot.mpr (hs i).ne_bot⟩)

/-- What the kernel makes of a row of scores and of one column of the parameters: the weighted sum of the
    exponentials, times the reciprocal of their sum. -/
def kattend {n : ℕ} (s p : Fin n → EReal) : EReal :=
  dot (fun j => Ideal.exp (s j - rowMax s)) p * Ideal.div 1 (∑ j, Ideal.exp (s j - rowMax s))

/-- What the reference makes of them: every exponential divided by their sum, then the weighted sum. -/
def rattend {n : ℕ} (s p : Fin n → EReal) : EReal :=
  dot (fun j => Ideal.div (Ideal.exp (s j - max negInf (rowMax s))) (∑ j, Ideal.exp (s j - max negInf (rowMax s)))) p

/-- The two are equal on a row of real scores, whatever the parameters are: the sum of the exponentials is then
    positive, and its reciprocal may be taken into the sum. -/
theorem kattend_eq_rattend {n : ℕ} {s : Fin n → EReal} (hs : ∀ i, IsReal (s i)) (i : Fin n) (p : Fin n → EReal) :
    kattend s p = rattend s p := by
  have hm : max negInf (rowMax s) = rowMax s := by rw [negInf_eq]; exact max_eq_right bot_le
  unfold kattend rattend dot
  rw [hm]
  have hpos : 0 < ∑ j, Ideal.exp (s j - rowMax s) := by
    obtain ⟨r, hr⟩ := (hs i).sub (rowMax_isReal hs i)
    refine lt_of_lt_of_le ?_ (Finset.single_le_sum (f := fun j => Ideal.exp (s j - rowMax s)) (fun j _ => exp_nonneg _) (Finset.mem_univ i))
    show 0 < Ideal.exp (s i - rowMax s)
    rw [hr, Ideal.exp_coe]
    exact EReal.coe_pos.mpr (Real.exp_pos r)
  obtain ⟨h0, hr⟩ := inv_of_pos hpos
  rw [div_of_pos _ hpos, one_mul, sum_mul _ _ h0 hr.ne_top]
  exact Finset.sum_congr rfl fun j _ => by dsimp only; rw [div_of_pos _ hpos, mul_right_comm]

/-! ## An entry of the result, from one batch element's arrays -/

section Entry

/- Of one batch element with 512 positions: `w` and `v` the matrices that project queries and keys, `t` the temperature's
   vector, `h` the hidden states, `p` the parameters, `q` the questions, `k` the mask. -/
variable (w v : Fin 256 → Fin 256 → EReal) (t : Fin 256 → EReal) (h : Fin 512 → Fin 256 → EReal)
  (p : Fin 512 → Fin 128 → EReal) (q k : Fin 512 → BitVec 32)

/-- The hidden state at position `i`, projected by the matrix `w`. -/
def proj (i : Fin 512) (x : Fin 256) : EReal := dot (h i) (w x)

/-- The kernel's scores of position `i` against every position `j`, those of another question masked. Queries and keys
    are both projected by `w`. -/
def kscores (i j : Fin 512) : EReal :=
  Scalar.select (IntOp.cmpi .eq (q i) (q j)) (kscore (dot (h i) t) (proj w h i) (proj w h j)) masked

/-- The reference's scores, which project queries by `w` and keys by `v`. -/
def rscores (i j : Fin 512) : EReal :=
  Scalar.select (IntOp.cmpi .eq (q i) (q j)) (rscore (dot (h i) t) (proj w h i) (proj v h j)) masked

/-- The kernel's result at position `i` and parameter `e`: the attended parameter where the mask is one, the parameter
    itself elsewhere. -/
def kentry (i : Fin 512) (e : Fin 128) : EReal :=
  Scalar.select (IntOp.cmpi .eq (k i) 1#32) (kattend (kscores w t h q i) fun j => p j e) (p i e)

/-- The reference's result there. -/
def rentry (i : Fin 512) (e : Fin 128) : EReal :=
  Scalar.select (IntOp.cmpi .eq (k i) 1#32) (rattend (rscores w v t h q i) fun j => p j e) (p i e)

/-- Where queries and keys are projected by one matrix, and it and the hidden states are real numbers, the two results
    are equal. -/
theorem kentry_eq_rentry (hw : ∀ x y, IsReal (w x y)) (hh : ∀ i y, IsReal (h i y)) (i : Fin 512) (e : Fin 128) :
    kentry w t h p q k i e = rentry w w t h p q k i e := by
  have hs : kscores w t h q i = rscores w w t h q i := by
    funext j; unfold kscores rscores; rw [kscore_eq_rscore]
  have hp : ∀ i x, IsReal (proj w h i x) := fun i x => dot_isReal (hh i) (hw x)
  have hr : ∀ j, IsReal (rscores w w t h q i j) := fun j => by
    unfold rscores Scalar.select
    split
    · exact rscore_isReal _ (hp i) (hp j)
    · exact masked_isReal
  unfold kentry rentry
  rw [hs, kattend_eq_rattend hr i]

end Entry

end Cert.RowMath

end
-- ==== Proof.Precondition.lean ====
/- What the precondition says of the argument arrays, entry by entry. -/
module

public import proofs.«01_k».proof.Defs
public import proofs.«01_k».proof.Proof.Gen.Pre_shared_finite_weights
public import proofs.«01_k».proof.Proof.RowMath
public import Idealize.ShloMosaic.Lib.ReduceAll
public import Idealize.ShloMosaic.Lib.Pointwise

@[expose] public section

set_option maxRecDepth 16384

noncomputable section

namespace Cert.Precondition

open Idealize.ShloMosaic Idealize.SL.Sem Cert.RowMath Cert.KernelIdeal

/-- An extended real whose absolute value is below the binary32 infinity is a real number. -/
theorem isReal_of_abs_lt {x : EReal} (h : max x (-x) < Ideal.ofBits .f32 0x7F800000#32) : IsReal x := by
  have ht : Ideal.ofBits .f32 0x7F800000#32 = ⊤ := by simp [Ideal.ofBits, Ideal.ieee]
  rw [ht] at h
  refine isReal_of_ne (fun e => ?_) (fun e => ?_)
  · rw [e] at h; simp at h
  · rw [e] at h; simp at h

/-- A decided proposition whose bit is one holds. -/
theorem of_ofBool {p : Prop} [Decidable p] (h : BitVec.ofBool (decide p) = 1#1) : p := by
  by_contra hp
  simp [hp] at h

variable (hPre : Cert.Pre_shared_finite_weights.Facts) {m : (ℓ : Loc nD τ sig) → Buf (Elt Ideal) ℓ}

/-- What the precondition says, on every device: the two projection matrices have the same entries, and these and the
    hidden states are real numbers. -/
theorem read (h : Pre_KernelIdeal_shared_finite_weights (hPre_shared_finite_weights := hPre) m) (c : Dev nD) :
    (∀ x y : Fin 256, m (c.tc.loc main_arg5) (ix2 x y) = m (c.tc.loc main_arg4) (ix2 x y))
      ∧ (∀ x y : Fin 256, IsReal (m (c.tc.loc main_arg4) (ix2 x y)))
      ∧ ∀ (b : Fin 16) (i : Fin 512) (k : Fin 256), IsReal (m (c.tc.loc main_arg0) (ix3 b i k)) := by
  have h1 := congrFun (h c) ix0
  dsimp only [Cert.Pre_shared_finite_weights.fn] at h1
  obtain ⟨hs, h2⟩ := IntOp.andi_eq_one.1 h1
  obtain ⟨hw, hh⟩ := IntOp.andi_eq_one.1 h2
  refine ⟨fun x y => ?_, fun x y => ?_, fun b i k => ?_⟩
  · have e := Host.reduce_andi_all _ _ _ _ _ hs (ix2 x y)
    pointwise at e
    exact of_ofBool e
  · have e := Host.reduce_andi_all _ _ _ _ _ hw (ix2 x y)
    pointwise at e
    exact isReal_of_abs_lt (of_ofBool e)
  · have e := Host.reduce_andi_all _ _ _ _ _ hh (ix3 b i k)
    pointwise at e
    exact isReal_of_abs_lt (of_ofBool e)

end Cert.Precondition

end
-- ==== Proof.Slab.lean ====
/- One slab of the kernel: what the kernel computes for one batch element.

   A grid point works through four batch elements, one after the other, with the same operations. The program's text of
   the four is cut up differently; here it is shown that the four are one function, and that function is read at an
   index. -/
module

public import proofs.«01_k».proof.Proof.Gen.KernelIdeal.Frame
public import proofs.«01_k».proof.Proof.RowMath
public import Idealize.ShloMosaic.Lib.Pointwise

@[expose] public section

set_option maxRecDepth 16384

noncomputable section

namespace Cert.KernelIdeal.Slab

open Idealize.ShloMosaic Idealize.SL.Sem Cert.KernelIdeal.Gen Cert.RowMath

section Payloads

variable {F : FTy → Type} [FloatOps F]

/-- What the kernel stores for one batch element: from the two weight matrices, the element's hidden states, its
    parameters, its questions and its mask. -/
def slab (wq : Vec F S256x256 .f32) (wt : Vec F S1x256 .f32) (h : Vec F S1x512x256 .f32) (p : Vec F S1x512x128 .f32)
    (q k : Vec F S1x1x512 .i32) : FVec F S1x512x128 .f32 :=
  k0_pay6 (k0_pay4 p) (k0_pay5 wq wt h q) k

variable (wq : Vec F S256x256 .f32) (wt : Vec F S1x256 .f32) (h : Vec F S1x512x256 .f32) (p : Vec F S1x512x128 .f32)
    (q k : Vec F S1x1x512 .i32)

/-- The second batch element of a grid point is computed by `slab`. -/
theorem slab_second :
    k0_pay16 (k0_pay9 p) (k0_pay14 (k0_pay9 p) (k0_pay10 wq h) (k0_pay11 wt h) (Scalar.ofBits .f32 0x00000000#32)
      (k0_pay12 wt h) (k0_pay13 wt h) q) (k0_pay15 k) = slab wq wt h p q k := rfl

/-- The third batch element of a grid point is computed by `slab`. -/
theorem slab_third : k0_pay22 (k0_pay19 p) (k0_pay20 wq wt h) (k0_pay21 q) k = slab wq wt h p q k := rfl

/-- The fourth batch element of a grid point is computed by `slab`. -/
theorem slab_fourth :
    k0_pay1 (k0_pay25 p) (k0_pay26 wq wt (k0_pay24 h) (k0_pay25 p) (constant S512x256 .f32 0x00000000#32) q) k
      = slab wq wt h p q k := rfl

end Payloads

/-- The scores of a batch element at a pair of positions. -/
theorem scores_apply (wq : Vec Ideal S256x256 .f32) (wt : Vec Ideal S1x256 .f32) (h : Vec Ideal S1x512x256 .f32)
    (q : Vec Ideal S1x1x512 .i32) (i j : Fin 512) :
    k0_pay5 wq wt h q (ix2 i j)
      = kscores (fun x k => wq (ix2 x k)) (fun k => wt (ix2 0 k)) (fun i k => h (ix3 0 i k)) (fun i => q (ix3 0 0 i)) i j := by
  pointwise [k0_pay5, k0_pay3]
  simp only [ne_eq, not_true_eq_false, if_false, zero_sub, Ideal.absf_def]
  rfl

/-- What the kernel stores for one batch element, at position `i` and parameter `e`. -/
theorem slab_apply (wq : Vec Ideal S256x256 .f32) (wt : Vec Ideal S1x256 .f32) (h : Vec Ideal S1x512x256 .f32)
    (p : Vec Ideal S1x512x128 .f32) (q k : Vec Ideal S1x1x512 .i32) (i : Fin 512) (e : Fin 128) :
    slab wq wt h p q k (ix3 0 i e)
      = kentry (fun x k => wq (ix2 x k)) (fun k => wt (ix2 0 k)) (fun i k => h (ix3 0 i k)) (fun i e => p (ix3 0 i e))
          (fun i => q (ix3 0 0 i)) (fun i => k (ix3 0 0 i)) i e := by
  unfold slab
  pointwise [k0_pay6, k0_pay4]
  simp only [scores_apply]
  rfl

end Cert.KernelIdeal.Slab

end
-- ==== Proof.Block.lean ====
/- One grid point of the kernel: the blocks of the two results it leaves, at an index, from the blocks it is given. -/
module

public import proofs.«01_k».proof.Proof.Slab
public import Idealize.ShloMosaic.Lib.Pipeline.ValueKit

@[expose] public section

set_option maxRecDepth 16384

noncomputable section

namespace Cert.KernelIdeal.Slab

open Idealize.ShloMosaic Idealize.SL.Sem Cert.KernelIdeal.Gen Cert.RowMath

variable (x0 : Vec Ideal S4x512x256 .f32) (x1 : Vec Ideal S4x512x128 .f32) (x2 x3 : Vec Ideal S4x1x512 .i32)
  (x4 : Vec Ideal S256x256 .f32) (x5 : Vec Ideal S1x256 .f32)

/-- The kernel's result for the batch element `a` of a grid point's blocks. -/
def blockEntry (a : Fin 4) (i : Fin 512) (e : Fin 128) : EReal :=
  kentry (fun x k => x4 (ix2 x k)) (fun k => x5 (ix2 0 k)) (fun i k => x0 (ix3 a i k)) (fun i e => x1 (ix3 a i e))
    (fun i => x2 (ix3 a 0 i)) (fun i => x3 (ix3 a 0 i)) i e

/-- The slab computed from loads that hold batch element `a` of the blocks is the result for `a`. -/
theorem slab_of_loads (a : Fin 4) {wq : Vec Ideal S256x256 .f32} {wt : Vec Ideal S1x256 .f32} {h : Vec Ideal S1x512x256 .f32}
    {p : Vec Ideal S1x512x128 .f32} {q k : Vec Ideal S1x1x512 .i32}
    (hwq : ∀ x y, wq (ix2 x y) = x4 (ix2 x y)) (hwt : ∀ y, wt (ix2 0 y) = x5 (ix2 0 y))
    (hh : ∀ i y, h (ix3 0 i y) = x0 (ix3 a i y)) (hp : ∀ i e, p (ix3 0 i e) = x1 (ix3 a i e))
    (hq : ∀ i, q (ix3 0 0 i) = x2 (ix3 a 0 i)) (hk : ∀ i, k (ix3 0 0 i) = x3 (ix3 a 0 i)) (i : Fin 512) (e : Fin 128) :
    slab wq wt h p q k (ix3 0 i e) = blockEntry x0 x1 x2 x3 x4 x5 a i e := by
  rw [slab_apply]
  unfold blockEntry
  simp only [hwq, hwt, hh, hp, hq, hk]

/-- The block of the second result, at the batch element `a`, the position `i` and the parameter `e`. -/
theorem out7_apply (a : Fin 4) (i : Fin 512) (e : Fin 128) :
    out0_7 x0 x1 x2 x3 x4 x5 (ix3 a i e) = blockEntry x0 x1 x2 x3 x4 x5 a i e := by
  unfold_out out0_7
  rw [slab_second, slab_third, slab_fourth]
  canon_tiles y h
  all_goals
    obtain ⟨z, i', e', rfl⟩ : ∃ (z : Fin 1) (i' : Fin 512) (e' : Fin 128), y = ix3 z i' e' := ⟨y 0, y 1, y 2, eq_ix3 y⟩
    obtain rfl : z = 0 := Subsingleton.elim _ _
    obtain rfl : i = i' := Fin.ext h1
    obtain rfl : e = e' := Fin.ext h2
    refine slab_of_loads x0 x1 x2 x3 x4 x5 a ?_ ?_ ?_ ?_ ?_ ?_ i e
  all_goals
    intros
    pointwise
  all_goals
    blk_ext []
    exact h0.symm

/-- The block of the first result is the block of hidden states. -/
theorem out6_eq : out0_6 x0 x1 x2 x3 x4 x5 = x0 := by
  funext y
  canon_tiles x h
  all_goals
    open_payloads
    pointwise
    blk_ext []

end Cert.KernelIdeal.Slab

end
-- ==== Proof.KernelArrays.lean ====
/- The two result arrays of the kernel after its run: the blocks of all grid points, put together. -/
module

public import proofs.«01_k».proof.Proof.Block
public import proofs.«01_k».proof.Proof.Gen.KernelIdeal.Value

@[expose] public section

set_option maxRecDepth 16384

noncomputable section

namespace Cert.KernelIdeal.Arrays

open Idealize.ShloMosaic Idealize.SL.Sem Cert.KernelIdeal.Gen Cert.KernelIdeal.Slab Cert.RowMath

variable (m : (ℓ : Loc nD τ sig) → Buf (Elt Ideal) ℓ) (c : Dev nD)

/-- The kernel's result for the batch element `b`, read off the argument arrays. -/
def entry (b : Fin 16) (i : Fin 512) (e : Fin 128) : EReal :=
  kentry (fun x k => m (c.tc.loc main_arg4) (ix2 x k)) (fun k => m (c.tc.loc main_arg6) (ix2 0 k))
    (fun i k => m (c.tc.loc main_arg0) (ix3 b i k)) (fun i e => m (c.tc.loc main_arg1) (ix3 b i e))
    (fun i => m (c.tc.loc main_arg2) (ix2 b i)) (fun i => m (c.tc.loc main_arg3) (ix2 b i)) i e

/-- Grid point `t` works on the block `t` of every batched array, and on the whole of each weight matrix. -/
theorem index : ∀ t : Fin cfg0.N, win0_0.index t = ![t.val, 0, 0] ∧ win0_1.index t = ![t.val, 0, 0]
    ∧ win0_2.index t = ![t.val, 0, 0] ∧ win0_3.index t = ![t.val, 0, 0] ∧ win0_4.index t = ![0, 0]
    ∧ win0_5.index t = ![0, 0] ∧ win0_6.index t = ![t.val, 0, 0] ∧ win0_7.index t = ![t.val, 0, 0] :=
  (by decide +kernel : ∀ t : Fin grid0.N, _)

/-- After the run the first result is the hidden states. -/
theorem final6 : (dats m 0 c).arrAt 6 cfg0.N = m (c.tc.loc main_arg0) := by
  refine (dats m 0 c).arrAt_eq_of_covers 6 _ (by decide +kernel) fun t hf y => ?_
  blk_simp
  rw [after0_6, out6_eq]
  blk_ext [iblk, V, index t]

/-- The batch element that grid point `t` works on as its element `a`. -/
def element (t : Fin cfg0.N) (a : Fin 4) : Fin 16 :=
  ⟨t.val * 4 + a.val, by have ht : t.val < 4 := t.isLt; have := a.isLt; omega⟩

/-- Block `t` of the hidden states. -/
theorem block0 (t : Fin cfg0.N) (a : Fin 4) (i : Fin 512) (k : Fin 256) :
    iblk m c 0 t (ix3 a i k) = m (c.tc.loc main_arg0) (ix3 (element t a) i k) := by
  blk_ext [iblk, V, index t, element]

/-- Block `t` of the parameters. -/
theorem block1 (t : Fin cfg0.N) (a : Fin 4) (i : Fin 512) (e : Fin 128) :
    iblk m c 1 t (ix3 a i e) = m (c.tc.loc main_arg1) (ix3 (element t a) i e) := by
  blk_ext [iblk, V, index t, element]

/-- Block `t` of the questions, which the kernel takes with a unit axis in the middle. -/
theorem block2 (t : Fin cfg0.N) (a : Fin 4) (i : Fin 512) :
    iblk m c 2 t (ix3 a 0 i) = m (c.tc.loc main_arg2) (ix2 (element t a) i) := by
  blk_ext! [iblk, V, index t, element]

/-- Block `t` of the mask, with the same unit axis. -/
theorem block3 (t : Fin cfg0.N) (a : Fin 4) (i : Fin 512) :
    iblk m c 3 t (ix3 a 0 i) = m (c.tc.loc main_arg3) (ix2 (element t a) i) := by
  blk_ext! [iblk, V, index t, element]

/-- Every block of the matrix that projects queries and keys is the matrix. -/
theorem block4 (t : Fin cfg0.N) (x y : Fin 256) : iblk m c 4 t (ix2 x y) = m (c.tc.loc main_arg4) (ix2 x y) := by
  blk_ext [iblk, V, index t]

/-- Every block of the temperature's vector is the vector. -/
theorem block5 (t : Fin cfg0.N) (y : Fin 256) : iblk m c 5 t (ix2 0 y) = m (c.tc.loc main_arg6) (ix2 0 y) := by
  blk_ext [iblk, V, index t]

/-- After the run the second result holds the kernel's result for every batch element. -/
theorem final7 : (dats m 0 c).arrAt 7 cfg0.N = fun y => entry m c (y 0) (y 1) (y 2) := by
  refine (dats m 0 c).arrAt_eq_of_covers 7 _ (by decide +kernel) fun t hf y => ?_
  blk_simp
  rw [after0_7]
  obtain ⟨a, i, e, rfl⟩ : ∃ (a : Fin 4) (i : Fin 512) (e : Fin 128), y = ix3 a i e := ⟨y 0, y 1, y 2, eq_ix3 y⟩
  have h0 : (win0_7.blk t).view.emb (ix3 a i e) 0 = element t a := by
    apply Fin.ext; blk_simp [index t, element]
  have h1 : (win0_7.blk t).view.emb (ix3 a i e) 1 = i := by
    apply Fin.ext; blk_simp [index t]
  have h2 : (win0_7.blk t).view.emb (ix3 a i e) 2 = e := by
    apply Fin.ext; blk_simp [index t]
  rw [h0, h1, h2, out7_apply]
  unfold blockEntry entry
  simp only [block0, block1, block2, block3, block4, block5]

end Cert.KernelIdeal.Arrays

end
-- ==== Proof.ReferenceValue.lean ====
/- What the reference computes, at an index. Its result is one long term over the argument arrays; it is cut here into the
   temperatures, the scores and the attended parameters, and each of these is read at an index by itself. -/
module

public import proofs.«01_k».proof.Proof.Gen.ReferenceIdeal.Run
public import proofs.«01_k».proof.Proof.RowMath
public import Idealize.ShloMosaic.Lib.Pointwise
public import Idealize.ShloMosaic.Lib.Tactic.CleanTypes

@[expose] public section

set_option maxRecDepth 16384

noncomputable section

namespace Cert.ReferenceIdeal.Entry

open Idealize.ShloMosaic Idealize.SL.Sem Cert.ReferenceIdeal.Gen Cert.ReferenceIdeal.Value Cert.RowMath Facts

/-! ## The stages, as arrays -/

/-- The hidden states projected by the rows of `w`. -/
def projected (h : FVec Ideal S16x512x256 .f32) (w : FVec Ideal S256x256 .f32) : FVec Ideal S16x512x256 .f32 :=
  Host.dotGeneral dot_S16x512x256_S256x256_S16x512x256_2_0_01_1_n_n none h
    (transpose S256x256 [1, 0] w transposes_S256x256_S256x256_1_0)

/-- The zero of every position. -/
def zeros : FVec Ideal S16x512x1 .f32 := broadcastInDim S16x512x1 ![] bcast_S_S16x512x1 (constant S_ .f32 0x00000000#32)

/-- The temperatures of positions whose projections are `x`. -/
def temps (x : FVec Ideal S16x512x1 .f32) : FVec Ideal S16x512x1 .f32 :=
  addf (select (cmpf .une (subf x zeros) (subf x zeros)) (addf x zeros)
      (addf (maximumf x zeros) (Host.log1p (Host.exp (Host.negf (Host.absf (subf x zeros)))))))
    (broadcastInDim S16x512x1 ![] bcast_S_S16x512x1 (constant S_ .f32 0x3C23D70A#32))

/-- The scores of queries `u` against keys `v` at the temperatures `t`, those of another question masked. -/
def scores (u v : FVec Ideal S16x512x256 .f32) (t : FVec Ideal S16x512x1 .f32) (q : IVec S16x512 32) :
    FVec Ideal S16x512x512 .f32 :=
  select
    (cmpi .eq
      (broadcastInDim S16x512x512 ![0, 1, 2] bcast_S16x512x1_S16x512x512_0_1_2
        (broadcastInDim S16x512x1 ![0, 1] bcast_S16x512_S16x512x1_0_1 q))
      (broadcastInDim S16x512x512 ![0, 1, 2] bcast_S16x1x512_S16x512x512_0_1_2
        (broadcastInDim S16x1x512 ![0, 2] bcast_S16x512_S16x1x512_0_2 q)))
    (Host.divf (Host.dotGeneral dot_S16x512x256_S16x512x256_S16x512x512_2_2_1_1_0_0 none u v)
      (broadcastInDim S16x512x512 ![0, 1, 2] bcast_S16x512x1_S16x512x512_0_1_2 t))
    (broadcastInDim S16x512x512 ![] bcast_S_S16x512x512 (constant S_ .f32 0xF149F2CA#32))

/-- The maximum of every row of scores. -/
def maxima (s : FVec Ideal S16x512x512 .f32) : FVec Ideal S16x512 .f32 :=
  Host.reduce FloatOps.maximumf s (constant S_ .f32 0xFF800000#32) reducesTo_S16x512x512_S16x512_d2 h_S_

/-- The exponentials of scores less their row's maximum, `y`. -/
def exps (s : FVec Ideal S16x512x512 .f32) (y : FVec Ideal S16x512 .f32) : FVec Ideal S16x512x512 .f32 :=
  Host.exp (subf s
    (broadcastInDim S16x512x512 ![0, 1, 2] bcast_S16x512x1_S16x512x512_0_1_2
      (broadcastInDim S16x512x1 ![0, 1] bcast_S16x512_S16x512x1_0_1
        (maximumf (broadcastInDim S16x512 ![] bcast_S_S16x512 (constant S_ .f32 0xFF800000#32)) y))))

/-- The parameters `p` weighted by the softmax whose exponentials are `x`. -/
def attended (x : FVec Ideal S16x512x512 .f32) (p : FVec Ideal S16x512x128 .f32) : FVec Ideal S16x512x128 .f32 :=
  Host.dotGeneral dot_S16x512x512_S16x512x128_S16x512x128_2_1_1_2_0_0 none
    (Host.divf x
      (broadcastInDim S16x512x512 ![0, 1, 2] bcast_S16x512x1_S16x512x512_0_1_2
        (broadcastInDim S16x512x1 ![0, 1] bcast_S16x512_S16x512x1_0_1
          (Host.reduceAdd x (constant S_ .f32 0x00000000#32) reducesTo_S16x512x512_S16x512_d2 h_S_))))
    p

/-- The attended parameters where the mask is one, the parameters elsewhere. -/
def chosen (k : IVec S16x512 32) (x p : FVec Ideal S16x512x128 .f32) : FVec Ideal S16x512x128 .f32 :=
  select
    (broadcastInDim S16x512x128 ![0, 1, 2] bcast_S16x512x1_S16x512x128_0_1_2
      (broadcastInDim S16x512x1 ![0, 1] bcast_S16x512_S16x512x1_0_1
        (cmpi .eq k (broadcastInDim S16x512 ![] bcast_S_S16x512 (constantI S_ 32 1#32)))))
    x p

/-! ## The stages at an index -/

/-- The projection of the hidden state at position `i`, its component `x`. -/
theorem projected_apply (h : FVec Ideal S16x512x256 .f32) (w : FVec Ideal S256x256 .f32) (b : Fin 16) (i : Fin 512) (x : Fin 256) :
    projected h w (ix3 b i x) = proj (fun x k => w (ix2 x k)) (fun i k => h (ix3 b i k)) i x := by
  pointwise [projected]
  rfl

/-- The temperature at a position: a number of the ideal kind is never different from itself, so the first choice never is
    made. -/
theorem temps_apply (x : FVec Ideal S16x512x1 .f32) (b : Fin 16) (i : Fin 512) : temps x (ix3 b i 0) = temp (x (ix3 b i 0)) := by
  pointwise [temps, zeros]
  simp only [ne_eq, not_true_eq_false, if_false, Ideal.absf_def]
  rfl

/-- The score of the pair of positions `i` and `j`. -/
theorem scores_apply (u v : FVec Ideal S16x512x256 .f32) (x : FVec Ideal S16x512x1 .f32) (q : IVec S16x512 32)
    (b : Fin 16) (i j : Fin 512) :
    scores u v (temps x) q (ix3 b i j)
      = Scalar.select (IntOp.cmpi .eq (q (ix2 b i)) (q (ix2 b j)))
          (rscore (x (ix3 b i 0)) (fun k => u (ix3 b i k)) fun k => v (ix3 b j k)) masked := by
  pointwise [scores]
  rw [temps_apply]
  have h : Ideal.div (∑ k, u (ix3 b i k) * v (ix3 b j k)) (temp (x (ix3 b i 0)))
      = rscore (x (ix3 b i 0)) (fun k => u (ix3 b i k)) fun k => v (ix3 b j k) := by
    unfold rscore dot; rfl
  exact congrArg (fun s => Scalar.select (IntOp.cmpi .eq (q (ix2 b i)) (q (ix2 b j))) s masked) h

/-- The maximum of the row of scores at position `i`. -/
theorem maxima_apply (s : FVec Ideal S16x512x512 .f32) (b : Fin 16) (i : Fin 512) :
    maxima s (ix2 b i) = rowMax fun j => s (ix3 b i j) := by
  pointwise [maxima]
  unfold rowMax
  rfl

/-- The exponential of a score less its row's maximum. -/
theorem exps_apply (s : FVec Ideal S16x512x512 .f32) (y : FVec Ideal S16x512 .f32) (b : Fin 16) (i j : Fin 512) :
    exps s y (ix3 b i j) = Ideal.exp (s (ix3 b i j) - max negInf (y (ix2 b i))) := by
  pointwise [exps]

/-- The attended parameter `e` at position `i`: the row of scores there and the column of parameters. -/
theorem attended_apply (s : FVec Ideal S16x512x512 .f32) (p : FVec Ideal S16x512x128 .f32) (b : Fin 16) (i : Fin 512) (e : Fin 128) :
    attended (exps s (maxima s)) p (ix3 b i e) = rattend (fun j => s (ix3 b i j)) fun j => p (ix3 b j e) := by
  have h : ∀ x : FVec Ideal S16x512x512 .f32, attended x p (ix3 b i e)
      = ∑ j, Ideal.div (x (ix3 b i j)) (∑ j, x (ix3 b i j)) * p (ix3 b j e) := fun x => by pointwise [attended]
  rw [h]
  simp only [exps_apply, maxima_apply]
  unfold rattend dot
  rfl

/-- The choice at a position, by its mask. -/
theorem chosen_apply (k : IVec S16x512 32) (x p : FVec Ideal S16x512x128 .f32) (b : Fin 16) (i : Fin 512) (e : Fin 128) :
    chosen k x p (ix3 b i e) = Scalar.select (IntOp.cmpi .eq (k (ix2 b i)) 1#32) (x (ix3 b i e)) (p (ix3 b i e)) := by
  pointwise [chosen]

/-! ## The result -/

section Result

variable (h : FVec Ideal S16x512x256 .f32) (p : FVec Ideal S16x512x128 .f32) (q k : IVec S16x512 32)
  (w v : FVec Ideal S256x256 .f32) (t : FVec Ideal S1x256 .f32)

/-- The temperatures' projections of the hidden states. -/
def tprojected : FVec Ideal S16x512x1 .f32 :=
  Host.dotGeneral dot_S16x512x256_S256x1_S16x512x1_2_0_01_1_n_n none h (transpose S256x1 [1, 0] t transposes_S1x256_S256x1_1_0)

/-- The temperatures' projection at a position is the product of its hidden state with the one row of `t`. -/
theorem tprojected_apply (b : Fin 16) (i : Fin 512) :
    tprojected h t (ix3 b i 0) = dot (fun k => h (ix3 b i k)) fun k => t (ix2 0 k) := by
  pointwise [tprojected]
  rfl

/-- The scores, from the argument arrays. -/
def allScores : FVec Ideal S16x512x512 .f32 := scores (projected h w) (projected h v) (temps (tprojected h t)) q

/-- The reference's second result, from its argument arrays. -/
def output : FVec Ideal S16x512x128 .f32 :=
  chosen k (attended (exps (allScores h q w v t) (maxima (allScores h q w v t))) p) p

/-- It holds, for the batch element `b`, the result of that element's arrays. -/
theorem output_apply (b : Fin 16) (i : Fin 512) (e : Fin 128) :
    output h p q k w v t (ix3 b i e)
      = rentry (fun x k => w (ix2 x k)) (fun x k => v (ix2 x k)) (fun k => t (ix2 0 k)) (fun i k => h (ix3 b i k))
          (fun i e => p (ix3 b i e)) (fun i => q (ix2 b i)) (fun i => k (ix2 b i)) i e := by
  unfold output
  rw [chosen_apply, attended_apply]
  simp only [allScores, scores_apply, projected_apply, tprojected_apply]
  rfl

end Result

/-- The second result that the reference's run leaves is `output` of the argument arrays. -/
theorem result (m : (ℓ : Loc nD τ sig) → Buf (Elt Ideal) ℓ) (c : Dev nD) :
    res_out1 m c = output (m (c.tc.loc main_arg0)) (m (c.tc.loc main_arg1)) (m (c.tc.loc main_arg2)) (m (c.tc.loc main_arg3))
      (m (c.tc.loc main_arg4)) (m (c.tc.loc main_arg5)) (m (c.tc.loc main_arg6)) := rfl

end Cert.ReferenceIdeal.Entry

end
-- ==== Proof.Runs.lean ====
/- The equation of the two programs: what the kernel's run leaves in its two result arrays is what the reference's run
   leaves in its own, when the precondition holds and the arguments agree. -/
module

public import proofs.«01_k».proof.Defs
public import proofs.«01_k».proof.Proof.Precondition
public import proofs.«01_k».proof.Proof.KernelArrays
public import proofs.«01_k».proof.Proof.ReferenceValue
public import Idealize.ShloMosaic.Lib.Quiescent

@[expose] public section

set_option maxRecDepth 16384

noncomputable section

namespace Cert.Runs

open Idealize.ShloMosaic Idealize.SL.Sem Cert.RowMath

attribute [local instance] Cert.KernelIdeal.Gen.facts Cert.ReferenceIdeal.Gen.facts
  Cert.Pre_shared_finite_weights.Gen.facts

/-- An entry of the kernel's second result is that entry of the reference's output of the same argument arrays. -/
theorem entry_eq_output {m : (ℓ : Loc KernelIdeal.nD KernelIdeal.τ KernelIdeal.sig) → Buf (Elt Ideal) ℓ}
    (h : Pre_KernelIdeal_shared_finite_weights m) (c : Dev KernelIdeal.nD) (b : Fin 16) (i : Fin 512) (e : Fin 128) :
    KernelIdeal.Arrays.entry m c b i e
      = ReferenceIdeal.Entry.output (m (c.tc.loc KernelIdeal.main_arg0)) (m (c.tc.loc KernelIdeal.main_arg1))
          (m (c.tc.loc KernelIdeal.main_arg2)) (m (c.tc.loc KernelIdeal.main_arg3)) (m (c.tc.loc KernelIdeal.main_arg4))
          (m (c.tc.loc KernelIdeal.main_arg5)) (m (c.tc.loc KernelIdeal.main_arg6)) (ix3 b i e) := by
  obtain ⟨hs, hw, hh⟩ := Precondition.read Cert.Pre_shared_finite_weights.Gen.facts h c
  rw [ReferenceIdeal.Entry.output_apply]
  simp only [hs]
  exact kentry_eq_rentry _ _ _ _ _ _ hw (hh b) i e

/-- The kernel's second result, as an array, is the reference's output. -/
theorem entries_eq_output {m : (ℓ : Loc KernelIdeal.nD KernelIdeal.τ KernelIdeal.sig) → Buf (Elt Ideal) ℓ}
    (h : Pre_KernelIdeal_shared_finite_weights m) (c : Dev KernelIdeal.nD) :
    (fun y : KernelIdeal.S16x512x128.Idx => KernelIdeal.Arrays.entry m c (y 0) (y 1) (y 2))
      = ReferenceIdeal.Entry.output (m (c.tc.loc KernelIdeal.main_arg0)) (m (c.tc.loc KernelIdeal.main_arg1))
          (m (c.tc.loc KernelIdeal.main_arg2)) (m (c.tc.loc KernelIdeal.main_arg3)) (m (c.tc.loc KernelIdeal.main_arg4))
          (m (c.tc.loc KernelIdeal.main_arg5)) (m (c.tc.loc KernelIdeal.main_arg6)) :=
  funext fun y => (entry_eq_output h c (y 0) (y 1) (y 2)).trans (congrArg _ (eq_ix3 y).symm)

/-- The reference runs from every memory and leaves its arguments as they were, every semaphore counter at zero. -/
theorem reference_quiescent : Cert.quiescent_ReferenceIdeal := fun m g _ =>
  (θ_run ReferenceIdeal.defs _ _).mono (fun r h => ⟨fun c => (h c).2.2, sem_eq_zero_of_no_sems (by decide) r.2⟩)
    (ReferenceIdeal.Value.run (F := Ideal) m g)

/-- From memories that agree on the arguments, under the precondition, the kernel and the reference end with equal
    results, both of them, and with their arguments as they were. -/
theorem algebraic : Cert.algebraic_KernelIdeal_ReferenceIdeal_pre_shared_finite_weights := by
  intro m g m' g' hPre hAgree
  refine ⟨fun c => m (c.tc.loc KernelIdeal.main_arg0), fun c y => KernelIdeal.Arrays.entry m c (y 0) (y 1) (y 2),
    (θ_run KernelIdeal.defs _ _).mono (fun r h c => ?_) (KernelIdeal.Value.run_blocks (F := Ideal) m g),
    (θ_run ReferenceIdeal.defs _ _).mono (fun r h c => ?_) (ReferenceIdeal.Value.run (F := Ideal) m' g')⟩
  · obtain ⟨h6, h7, kept⟩ := h c
    exact ⟨h6.trans (KernelIdeal.Arrays.final6 m c), h7.trans (KernelIdeal.Arrays.final7 m c), kept⟩
  · obtain ⟨h0, h33, kept⟩ := h c
    obtain ⟨a0, a1, a2, a3, a4, a5, a6⟩ := hAgree c
    refine ⟨h0.trans a0, ?_, kept⟩
    rw [h33]
    refine (ReferenceIdeal.Entry.result m' c).trans ?_
    rw [a0, a1, a2, a3, a4, a5, a6]
    exact (entries_eq_output hPre c).symm

end Cert.Runs

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_shared_finite_weights
public import proofs.«01_k».proof.Proof.Runs

@[expose] public section

noncomputable section

namespace Cert.Proof

/-- The whole claim. The frames under the precondition are the frames without it. -/
theorem claim : Cert.Claim :=
  ⟨Cert.Kernel.Gen.facts, Cert.KernelIdeal.Gen.facts, Cert.ReferenceIdeal.Gen.facts, Cert.Pre_shared_finite_weights.Gen.facts,
    fun m g _ => Cert.Kernel.Gen.frame m g,
    fun m g _ => Cert.KernelIdeal.Gen.frame m g,
    fun m g _ => Cert.KernelIdeal.Gen.frame m g,
    Cert.Runs.reference_quiescent,
    fun m g _ => Cert.Runs.reference_quiescent m g trivial,
    trivial,
    Cert.Runs.algebraic⟩

end Cert.Proof

end
